-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x5120 : Shape := ⟨3, ![8, 1, 5120]⟩
abbrev S640x35840 : Shape := ⟨2, ![640, 35840]⟩
abbrev S35840 : Shape := ⟨1, ![35840]⟩
abbrev S4480 : Shape := ⟨1, ![4480]⟩
abbrev S8x5120 : Shape := ⟨2, ![8, 5120]⟩
abbrev S35x1x1024 : Shape := ⟨3, ![35, 1, 1024]⟩
abbrev S35x1x128 : Shape := ⟨3, ![35, 1, 128]⟩
abbrev S8x35840 : Shape := ⟨2, ![8, 35840]⟩
abbrev S640x1024 : Shape := ⟨2, ![640, 1024]⟩
abbrev S1x1x1024 : Shape := ⟨3, ![1, 1, 1024]⟩
abbrev S1x1x128 : Shape := ⟨3, ![1, 1, 128]⟩
abbrev S8x1024 : Shape := ⟨2, ![8, 1024]⟩
abbrev S640x1x1024 : Shape := ⟨3, ![640, 1, 1024]⟩
abbrev S640x8x1024 : Shape := ⟨3, ![640, 8, 1024]⟩
abbrev S5120x1024 : Shape := ⟨2, ![5120, 1024]⟩
abbrev S8 : Shape := ⟨1, ![8]⟩
abbrev S8x1 : Shape := ⟨2, ![8, 1]⟩
abbrev S8x128 : Shape := ⟨2, ![8, 128]⟩
abbrev S1x128 : Shape := ⟨2, ![1, 128]⟩
abbrev S8x128x1 : Shape := ⟨3, ![8, 128, 1]⟩
abbrev S8x1x35840 : Shape := ⟨3, ![8, 1, 35840]⟩

abbrev nBuf : Space → Nat
  | .hbm => 9
  | .vmem => 9
  | .smem => 0
  | _ => 0

abbrev bufTy : (tb : Table) → Fin (tcTables nBuf tb) → BufTy
  | .hbm, ⟨0, _⟩ => ⟨S8x1x5120, .bf16⟩
  | .hbm, ⟨1, _⟩ => ⟨S640x35840, .i32⟩
  | .hbm, ⟨2, _⟩ => ⟨S35840, .f32⟩
  | .hbm, ⟨3, _⟩ => ⟨S4480, .i32⟩
  | .hbm, ⟨4, _⟩ => ⟨S8x5120, .bf16⟩
  | .hbm, ⟨5, _⟩ => ⟨S35x1x1024, .f32⟩
  | .hbm, ⟨6, _⟩ => ⟨S35x1x128, .i32⟩
  | .hbm, ⟨7, _⟩ => ⟨S8x35840, .bf16⟩
  | .hbm, ⟨8, _⟩ => ⟨S8x1x35840, .bf16⟩
  | .local _ .vmem, ⟨0, _⟩ => ⟨S8x5120, .bf16⟩
  | .local _ .vmem, ⟨1, _⟩ => ⟨S640x1024, .i32⟩
  | .local _ .vmem, ⟨2, _⟩ => ⟨S640x1024, .i32⟩
  | .local _ .vmem, ⟨3, _⟩ => ⟨S1x1x1024, .f32⟩
  | .local _ .vmem, ⟨4, _⟩ => ⟨S1x1x1024, .f32⟩
  | .local _ .vmem, ⟨5, _⟩ => ⟨S1x1x128, .i32⟩
  | .local _ .vmem, ⟨6, _⟩ => ⟨S1x1x128, .i32⟩
  | .local _ .vmem, ⟨7, _⟩ => ⟨S8x1024, .bf16⟩
  | .local _ .vmem, ⟨8, _⟩ => ⟨S8x1024, .bf16⟩
  | _, _ => ⟨S8x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![35], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S640x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x1x5120 : Shape := ⟨3, ![8, 1, 5120]⟩
abbrev S640x35840 : Shape := ⟨2, ![640, 35840]⟩
abbrev S35840 : Shape := ⟨1, ![35840]⟩
abbrev S4480 : Shape := ⟨1, ![4480]⟩
abbrev S8 : Shape := ⟨1, ![8]⟩
abbrev S_ : Shape := ⟨0, ![]⟩
abbrev S640x1x35840 : Shape := ⟨3, ![640, 1, 35840]⟩
abbrev S1x8x1 : Shape := ⟨3, ![1, 8, 1]⟩
abbrev S640x8x35840 : Shape := ⟨3, ![640, 8, 35840]⟩
abbrev S5120x35840 : Shape := ⟨2, ![5120, 35840]⟩
abbrev S8x5120 : Shape := ⟨2, ![8, 5120]⟩
abbrev S8x35840 : Shape := ⟨2, ![8, 35840]⟩
abbrev S8x1x35840 : Shape := ⟨3, ![8, 1, 35840]⟩
abbrev S8x1 : Shape := ⟨2, ![8, 1]⟩
abbrev S8x1x1 : Shape := ⟨3, ![8, 1, 1]⟩
abbrev S4480x1 : Shape := ⟨2, ![4480, 1]⟩
abbrev S1x8 : Shape := ⟨2, ![1, 8]⟩
abbrev S4480x8 : Shape := ⟨2, ![4480, 8]⟩
abbrev S1x1x35840 : Shape := ⟨3, ![1, 1, 35840]⟩

abbrev nBuf : Space → Nat
  | .hbm => 44
  | .vmem => 0
  | .smem => 0
  | _ => 0

abbrev bufTy : (tb : Table) → Fin (tcTables nBuf tb) → BufTy
  | .hbm, ⟨0, _⟩ => ⟨S8x1x5120, .bf16⟩
  | .hbm, ⟨1, _⟩ => ⟨S640x35840, .i32⟩
  | .hbm, ⟨2, _⟩ => ⟨S35840, .f32⟩
  | .hbm, ⟨3, _⟩ => ⟨S4480, .i32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S640x1x35840, .i32⟩
  | .hbm, ⟨9, _⟩ => ⟨S1x8x1, .i32⟩
  | .hbm, ⟨10, _⟩ => ⟨S640x8x35840, .i32⟩
  | .hbm, ⟨11, _⟩ => ⟨S640x8x35840, .i32⟩
  | .hbm, ⟨12, _⟩ => ⟨S640x8x35840, .i32⟩
  | .hbm, ⟨13, _⟩ => ⟨S_, .i32⟩
  | .hbm, ⟨14, _⟩ => ⟨S640x8x35840, .i32⟩
  | .hbm, ⟨15, _⟩ => ⟨S640x8x35840, .i32⟩
  | .hbm, ⟨16, _⟩ => ⟨S640x8x35840, .bf16⟩
  | .hbm, ⟨17, _⟩ => ⟨S5120x35840, .bf16⟩
  | .hbm, ⟨18, _⟩ => ⟨S8x5120, .bf16⟩
  | .hbm, ⟨19, _⟩ => ⟨S8x35840, .f32⟩
  | .hbm, ⟨20, _⟩ => ⟨S8x1x35840, .f32⟩
  | .hbm, ⟨21, _⟩ => ⟨S8x1x5120, .f32⟩
  | .hbm, ⟨22, _⟩ => ⟨S_, .f32⟩
  | .hbm, ⟨23, _⟩ => ⟨S8x1, .f32⟩
  | .hbm, ⟨24, _⟩ => ⟨S8x1x1, .f32⟩
  | .hbm, ⟨25, _⟩ => ⟨S4480x1, .i32⟩
  | .hbm, ⟨26, _⟩ => ⟨S1x8, .i32⟩
  | .hbm, ⟨27, _⟩ => ⟨S4480x8, .i32⟩
  | .hbm, ⟨28, _⟩ => ⟨S4480x8, .i32⟩
  | .hbm, ⟨29, _⟩ => ⟨S4480x8, .i32⟩
  | .hbm, ⟨30, _⟩ => ⟨S_, .i32⟩
  | .hbm, ⟨31, _⟩ => ⟨S4480x8, .i32⟩
  | .hbm, ⟨32, _⟩ => ⟨S4480x8, .i32⟩
  | .hbm, ⟨33, _⟩ => ⟨S35840, .i32⟩
  | .hbm, ⟨34, _⟩ => ⟨S35840, .f32⟩
  | .hbm, ⟨35, _⟩ => ⟨S1x1x35840, .f32⟩
  | .hbm, ⟨36, _⟩ => ⟨S8x1x35840, .f32⟩
  | .hbm, ⟨37, _⟩ => ⟨S8x1x35840, .f32⟩
  | .hbm, ⟨38, _⟩ => ⟨S8x1x35840, .f32⟩
  | .hbm, ⟨39, _⟩ => ⟨S8x1x35840, .f32⟩
  | .hbm, ⟨40, _⟩ => ⟨S1x1x35840, .f32⟩
  | .hbm, ⟨41, _⟩ => ⟨S8x1x35840, .f32⟩
  | .hbm, ⟨42, _⟩ => ⟨S8x1x35840, .f32⟩
  | .hbm, ⟨43, _⟩ => ⟨S8x1x35840, .bf16⟩
  | _, _ => ⟨S8x1x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Proof.Strip.lean ====
/- One STRIP of the kernel's block, stated once. The body writes a block of 1024 columns as eight strips of 128 columns, and
   its printed text repeats the strip's operations eight times, cut at other places each time. Here the strip is one
   definition over the number of its first packed word, and the block the body leaves is shown to be the eight strips. -/
module

public import proofs.«01_k».proof.Proof.Gen.KernelIdeal.Frame

@[expose] public section

noncomputable section

namespace Cert.Proof

open Idealize.ShloMosaic Idealize.SL.Sem Cert.KernelIdeal Cert.KernelIdeal.Gen

variable {F : FTy → Type} [FloatOps F]

/-- The lane number of every element of a strip. -/
def lanes : IVec S8x128 32 := iota .tc S8x128 32 [1] iota_S8x128_d1_w32

/-- The packed word that each lane reads: its lane number divided by eight, rounding down (printed as a division and its
    correction for operands of opposite signs), plus the strip's first word `o`, wrapped into the 128 words. -/
def wordNo (o : BitVec 32) : IVec S8x128 32 :=
  have q : IVec S8x128 32 := divsi lanes (broadcast S8x128 8#32)
  have sgn : IVec S8x128 32 := subi (extui 32 (cmpi .sgt lanes (broadcast S8x128 0#32)) natLt_1_32)
    (extui 32 (cmpi .slt lanes (broadcast S8x128 0#32)) natLt_1_32)
  have sgn8 : BitVec 32 := Scalar.subi (Scalar.extui (Scalar.cmpi .sgt 8#32 0#32)) (Scalar.extui (Scalar.cmpi .slt 8#32 0#32))
  have down : IVec S8x128 1 := andi (cmpi .ne sgn (broadcast S8x128 sgn8))
    (cmpi .ne (remsi lanes (broadcast S8x128 8#32)) (broadcast S8x128 0#32))
  have w : IVec S8x128 32 := addi (select down (subi q (broadcast S8x128 1#32)) q) (broadcast S8x128 o)
  have w' : IVec S8x128 32 := select (cmpi .slt w (broadcast S8x128 0#32)) (addi w (broadcast S8x128 128#32)) w
  shapeCast S8x128 (shapeCast S8x128x1 w' shapeCasts_S8x128_S8x128x1) shapeCasts_S8x128x1_S8x128

/-- By how many bits each lane shifts its word: four times the lane number modulo eight (printed as a remainder and its
    correction for a negative one). -/
def shiftNo : IVec S8x128 32 :=
  have d : BitVec 32 := Scalar.select (Scalar.cmpi .eq 8#32 0#32) 1#32 8#32
  have r : IVec S8x128 32 := remsi lanes (broadcast S8x128 d)
  have ne : IVec S8x128 1 := cmpi .ne r (broadcast S8x128 0#32)
  have neg : IVec S8x128 1 := cmpi .slt r (broadcast S8x128 0#32)
  have dneg : IVec S8x128 1 := broadcastTo S8x128 (broadcast S8x128 (Scalar.cmpi .slt d 0#32)) broadcasts_S8x128_S8x128
  muli (select (andi (xori neg dneg) ne) (addi r (broadcast S8x128 d)) r) (broadcast S8x128 4#32)

/-- The zero point of each lane of a strip, as a float: the field of the lane's packed word. -/
def stripZero (o : BitVec 32) (zw : Vec F S1x1x128 .i32) : FVec F S8x128 .f32 :=
  have words : IVec S8x128 32 := broadcastTo S8x128 (shapeCast S1x128 (shapeCast S1x128 zw shapeCasts_S1x1x128_S1x128)
    shapeCasts_S1x128_S1x128) broadcasts_S1x128_S8x128
  sitofp .f32 (andi (shrsi (dynamicGather 1 words (wordNo o)) shiftNo) (broadcast S8x128 15#32))

/-- What a strip stores, from its columns `dot` of the block product, the row sums `sum` of the activations, the packed zero
    points `zw` and its columns `sc` of the scales. -/
def strip (o : BitVec 32) (dot : FVec F S8x128 .f32) (sum : FVec F S8x1 .f32) (zw : Vec F S1x1x128 .i32)
    (sc : Vec F S1x1x128 .f32) : FVec F S8x128 .bf16 :=
  truncf .bf16 (mulf (broadcastTo S8x128 (shapeCast S1x128 sc shapeCasts_S1x1x128_S1x128) broadcasts_S1x128_S8x128)
    (subf dot (mulf (stripZero o zw) (broadcastTo S8x128 sum broadcasts_S8x1_S8x128)))) bitsLt_bf16_f32

/-- The block the body leaves is its eight strips, the `s`-th over the columns `128 s …` and the words `16 s …`. -/
theorem out_eq_strips (x0 : Vec F S8x5120 .bf16) (x1 : Vec F S640x1024 .i32) (x2 : Vec F S1x1x1024 .f32) (x3 : Vec F S1x1x128 .i32) :
    out0_4 x0 x1 x2 x3 = View.canon
      [⟨r0_18, strip 112#32 (extractStridedSlice S8x128 ![0, 896] (k0_pay44 x0 x1 x2 x3) slices_S8x1024_o0_896_S8x128) (k0_pay45 x0 x1 x2 x3) (View.ld x3 r0_2) (View.ld x2 r0_17)⟩,
       ⟨r0_16, strip 96#32 (extractStridedSlice S8x128 ![0, 768] (k0_pay44 x0 x1 x2 x3) slices_S8x1024_o0_768_S8x128) (k0_pay45 x0 x1 x2 x3) (View.ld x3 r0_2) (View.ld x2 r0_15)⟩,
       ⟨r0_14, strip 80#32 (extractStridedSlice S8x128 ![0, 640] (k0_pay44 x0 x1 x2 x3) slices_S8x1024_o0_640_S8x128) (k0_pay45 x0 x1 x2 x3) (View.ld x3 r0_2) (View.ld x2 r0_13)⟩,
       ⟨r0_12, strip 64#32 (extractStridedSlice S8x128 ![0, 512] (k0_pay44 x0 x1 x2 x3) slices_S8x1024_o0_512_S8x128) (k0_pay45 x0 x1 x2 x3) (View.ld x3 r0_2) (View.ld x2 r0_11)⟩,
       ⟨r0_10, strip 48#32 (extractStridedSlice S8x128 ![0, 384] (k0_pay44 x0 x1 x2 x3) slices_S8x1024_o0_384_S8x128) (k0_pay45 x0 x1 x2 x3) (View.ld x3 r0_2) (View.ld x2 r0_9)⟩,
       ⟨r0_8, strip 32#32 (extractStridedSlice S8x128 ![0, 256] (k0_pay44 x0 x1 x2 x3) slices_S8x1024_o0_256_S8x128) (k0_pay45 x0 x1 x2 x3) (View.ld x3 r0_2) (View.ld x2 r0_7)⟩,
       ⟨r0_6, strip 16#32 (extractStridedSlice S8x128 ![0, 128] (k0_pay44 x0 x1 x2 x3) slices_S8x1024_o0_128_S8x128) (k0_pay45 x0 x1 x2 x3) (View.ld x3 r0_2) (View.ld x2 r0_5)⟩,
       ⟨r0_4, strip 0#32 (extractStridedSlice S8x128 ![0, 0] (k0_pay44 x0 x1 x2 x3) slices_S8x1024_o0_0_S8x128) (k0_pay45 x0 x1 x2 x3) (View.ld x3 r0_2) (View.ld x2 r0_3)⟩] := rfl

end Cert.Proof

end
-- ==== Proof.Spec.lean ====
/- The value both programs compute, element by element, over the extended reals: the four-bit fields of a packed word, and the
   decoded linear layer as one formula in the four argument arrays. The facts on words that both sides read their fields by. -/
module

public import Idealize.ShloMosaic.Lib.Pointwise

@[expose] public section

noncomputable section

namespace Cert.Proof

open Idealize.ShloMosaic

/-- Field `k` of a packed word, as a word: the word shifted right by `4 k` bits, its low four bits kept. -/
def field (w : BitVec 32) (k : ℕ) : BitVec 32 := w.sshiftRight (4 * k) &&& 15#32

/-- Field `k` of a packed word, as a number from 0 to 15. -/
def code (w : BitVec 32) (k : ℕ) : EReal := (((field w k).toInt : ℝ) : EReal)

/-- Element `(i, n)` of the layer: the scale of column `n` times the difference of the row's product with the column's codes
    and the column's zero point times the row's sum. Code `k` of a column is field `k % 8` of its packed word `k / 8`, the zero
    point of column `n` field `n % 8` of the packed word `n / 8`. -/
def layer (x : Fin 8 → Fin 5120 → EReal) (q : Fin 640 → Fin 35840 → BitVec 32) (s : Fin 35840 → EReal) (z : Fin 4480 → BitVec 32)
    (i : Fin 8) (n : Fin 35840) : EReal :=
  s n * ((∑ k : Fin 5120, x i k * code (q ⟨k.val / 8, by omega⟩ n) (k.val % 8))
    - code (z ⟨n.val / 8, by omega⟩) (n.val % 8) * ∑ k : Fin 5120, x i k)

/-- The shift amount of field `k`, as the programs compute it. -/
theorem shift_word (k : ℕ) : IntOp.muli (BitVec.ofNat 32 k) 4#32 = BitVec.ofNat 32 (4 * k) := by
  show BitVec.ofNat 32 k * BitVec.ofNat 32 4 = _
  rw [← BitVec.ofNat_mul, Nat.mul_comm]

/-- An arithmetic shift by a field's amount is in range on every unit. -/
theorem shrsi_field (u : ArithUnit) (w : BitVec 32) (k : ℕ) (hk : k < 8) :
    IntOp.shrsi u w (BitVec.ofNat 32 (4 * k)) = w.sshiftRight (4 * k) := by
  have h : (BitVec.ofNat 32 (4 * k)).toNat = 4 * k := by rw [BitVec.toNat_ofNat]; omega
  unfold IntOp.shrsi
  rw [h, if_pos (by omega)]
  show w.sshiftRight (BitVec.ofNat 32 (4 * k)).toNat = _
  rw [h]

/-- A shifted word masked to four bits, read as a signed integer, is the field. -/
theorem sitofp_field (φ : FTy) (u : ArithUnit) (w : BitVec 32) (n : ℕ) :
    FloatOps.sitofp (F := Ideal) φ (IntOp.andi (IntOp.shrsi u w (BitVec.ofNat 32 (4 * (n % 8)))) 15#32) = code w (n % 8) := by
  rw [shrsi_field u w (n % 8) (by omega)]; rfl

/-- The low four bits of a word, read as an unsigned integer, are the word masked to four bits read as a signed one. -/
theorem toNat_low (v : BitVec 32) : ((v.setWidth 4).toNat : ℤ) = (v &&& 15#32).toInt := by
  have h : (v &&& 15#32).toNat = v.toNat % 16 := by
    rw [BitVec.toNat_and]; exact Nat.and_two_pow_sub_one_eq_mod v.toNat 4
  rw [BitVec.toInt_eq_toNat_of_lt (by omega), h, BitVec.toNat_setWidth]

/-- A shifted word cut to four bits, read as an unsigned integer, is the field. -/
theorem uitofp_field (φ : FTy) (u : ArithUnit) (w : BitVec 32) (n : ℕ) :
    FloatOps.uitofp (F := Ideal) φ (BitVec.setWidth 4 (IntOp.shrsi u w (BitVec.ofNat 32 (4 * (n % 8))))) = code w (n % 8) := by
  rw [shrsi_field u w (n % 8) (by omega)]
  show ((((w.sshiftRight (4 * (n % 8))).setWidth 4).toNat : ℝ) : EReal) = _
  unfold code field
  rw [← toNat_low, Int.cast_natCast]

end Cert.Proof

end
-- ==== Proof.Block.lean ====
/- The block that the kernel's body leaves, at every element, over the extended reals. -/
module

public import proofs.«01_k».proof.Proof.Strip
public import proofs.«01_k».proof.Proof.Spec
public import Idealize.ShloMosaic.Lib.Pipeline.Value

@[expose] public section

noncomputable section

namespace Cert.Proof

open Idealize.ShloMosaic Idealize.SL.Sem Cert.KernelIdeal Cert.KernelIdeal.Gen

/-- Lane `j` of strip `s` reads packed word `16 s + j / 8`, checked at each of the 1024 columns of the block. -/
theorem wordNo_apply (s : Fin 8) (i : Fin 8) (j : Fin 128) :
    wordNo (BitVec.ofNat 32 (16 * s.val)) (ix2 i j) = BitVec.ofNat 32 (16 * s.val + j.val / 8) := by
  unfold wordNo lanes
  pointwise
  clear i
  revert s j
  decide +kernel

/-- Lane `j` of a strip shifts by `4 (j % 8)` bits, checked at each of the 128 lanes. -/
theorem shiftNo_apply (i : Fin 8) (j : Fin 128) : shiftNo (ix2 i j) = BitVec.ofNat 32 (4 * (j.val % 8)) := by
  unfold shiftNo lanes
  pointwise
  clear i
  revert j
  decide +kernel

/-- The zero point of lane `j` of strip `s`: field `j % 8` of word `16 s + j / 8`. -/
theorem stripZero_apply (s : Fin 8) (zw : Vec Ideal S1x1x128 .i32) (i : Fin 8) (j : Fin 128) :
    stripZero (F := Ideal) (BitVec.ofNat 32 (16 * s.val)) zw (ix2 i j)
      = code (zw (ix3 0 0 ⟨16 * s.val + j.val / 8, by omega⟩)) (j.val % 8) := by
  unfold stripZero
  pointwise
  rw [shiftNo_apply, sitofp_field]
  congr 3
  apply Fin.ext
  show (wordNo (BitVec.ofNat 32 (16 * s.val)) (ix2 i j)).toNat % 128 = _
  rw [wordNo_apply, BitVec.toNat_ofNat]
  have := s.isLt; have := j.isLt
  show _ = 16 * s.val + j.val / 8
  omega

/-- What strip `s` stores at an element. -/
theorem strip_apply (s : Fin 8) (dot : FVec Ideal S8x128 .f32) (sum : FVec Ideal S8x1 .f32) (zw : Vec Ideal S1x1x128 .i32)
    (sc : Vec Ideal S1x1x128 .f32) (i : Fin 8) (j : Fin 128) :
    strip (F := Ideal) (BitVec.ofNat 32 (16 * s.val)) dot sum zw sc (ix2 i j)
      = sc (ix3 0 0 j) * (dot (ix2 i j) - code (zw (ix3 0 0 ⟨16 * s.val + j.val / 8, by omega⟩)) (j.val % 8) * sum (ix2 i 0)) := by
  unfold strip
  pointwise
  rw [stripZero_apply]

/-- The block product: row `i` of the activations against the codes of column `j`. -/
theorem pay3_apply (x0 : Vec Ideal S8x5120 .bf16) (x1 : Vec Ideal S640x1024 .i32) (i : Fin 8) (j : Fin 1024) :
    k0_pay3 (F := Ideal) x0 x1 (ix2 i j) = ∑ k : Fin 5120, x0 (ix2 i k) * code (x1 (ix2 ⟨k.val / 8, by omega⟩ j)) (k.val % 8) := by
  unfold k0_pay3 k0_pay2
  pointwise
  refine Finset.sum_congr rfl fun k _ => ?_
  rw [shift_word, uitofp_field]

/-- The row sums of the activations. -/
theorem pay4_apply (x0 : Vec Ideal S8x5120 .bf16) (i : Fin 8) : k0_pay4 (F := Ideal) x0 (ix2 i 0) = ∑ k : Fin 5120, x0 (ix2 i k) := by
  unfold k0_pay4 k0_pay2
  pointwise

/-- Element `(i, j)` of a block, from the blocks of the activations, the packed codes, the scales and the packed zero points. -/
def blockAt (x0 : Vec Ideal S8x5120 .bf16) (x1 : Vec Ideal S640x1024 .i32) (x2 : Vec Ideal S1x1x1024 .f32) (x3 : Vec Ideal S1x1x128 .i32)
    (i : Fin 8) (j : Fin 1024) : EReal :=
  x2 (ix3 0 0 j) * ((∑ k : Fin 5120, x0 (ix2 i k) * code (x1 (ix2 ⟨k.val / 8, by omega⟩ j)) (k.val % 8))
    - code (x3 (ix3 0 0 ⟨j.val / 8, by omega⟩)) (j.val % 8) * ∑ k : Fin 5120, x0 (ix2 i k))

/-- Strip `s` stores the block's columns from `128 s` on: stated once for the eight strips. -/
theorem strip_eq (s : Fin 8) (x0 : Vec Ideal S8x5120 .bf16) (x1 : Vec Ideal S640x1024 .i32) (x2 : Vec Ideal S1x1x1024 .f32)
    (x3 : Vec Ideal S1x1x128 .i32) (hs : S8x1024.Slices ![0, 128 * s.val] S8x128)
    (h2 : ∀ a, (![0, 0, 128 * s.val] : Fin 3 → ℕ) a + S1x1x128.size a ≤ S1x1x1024.size a)
    (h4 : ∀ a, (![0, 128 * s.val] : Fin 2 → ℕ) a + S8x128.size a ≤ S8x1024.size a) (y : S8x128.Idx) :
    strip (F := Ideal) (BitVec.ofNat 32 (16 * s.val)) (extractStridedSlice S8x128 ![0, 128 * s.val] (k0_pay44 x0 x1 x2 x3) hs)
        (k0_pay45 x0 x1 x2 x3) (View.ld x3 r0_2) (View.ld x2 (Rect.unit (s := S1x1x1024) ![0, 0, 128 * s.val] S1x1x128.size h2)) y
      = blockAt x0 x1 x2 x3 ((Rect.unit (s := S8x1024) ![0, 128 * s.val] S8x128.size h4).emb y 0)
          ((Rect.unit (s := S8x1024) ![0, 128 * s.val] S8x128.size h4).emb y 1) := by
  obtain ⟨i, j, rfl⟩ : ∃ (i : Fin 8) (j : Fin 128), y = ix2 i j := ⟨y 0, y 1, by funext a; fin_cases a <;> rfl⟩
  have hz2 : (![0, 0] : Fin S8x5120.rank → ℕ) = fun _ => 0 := funext fun a => by fin_cases a <;> rfl
  have hz2' : (![0, 0] : Fin S640x1024.rank → ℕ) = fun _ => 0 := funext fun a => by fin_cases a <;> rfl
  have hz3 : (![0, 0, 0] : Fin S1x1x128.rank → ℕ) = fun _ => 0 := funext fun a => by fin_cases a <;> rfl
  have e0 : (Rect.unit (s := S8x1024) ![0, 128 * s.val] S8x128.size h4).emb (ix2 i j) 0 = i :=
    Fin.ext (show 0 + 1 * i.val = i.val by omega)
  have e1 : (Rect.unit (s := S8x1024) ![0, 128 * s.val] S8x128.size h4).emb (ix2 i j) 1 = (⟨128 * s.val + j.val, by omega⟩ : Fin 1024) :=
    Fin.ext (show 128 * s.val + 1 * j.val = 128 * s.val + j.val by omega)
  have e2 : View.ld x2 (Rect.unit (s := S1x1x1024) ![0, 0, 128 * s.val] S1x1x128.size h2) (ix3 0 0 j)
      = x2 (ix3 0 0 ⟨128 * s.val + j.val, by omega⟩) := by
    refine congrArg x2 (funext fun a => Fin.ext ?_)
    fin_cases a
    · rfl
    · rfl
    · show 128 * s.val + 1 * j.val = 128 * s.val + j.val; omega
  have e3 : extractStridedSlice S8x128 ![0, 128 * s.val] (k0_pay44 x0 x1 x2 x3) hs (ix2 i j)
      = k0_pay3 x0 x1 (ix2 i ⟨128 * s.val + j.val, by omega⟩) := by
    unfold k0_pay44
    rw [View.ld_unit_zero hz2, View.ld_unit_zero hz2']
    refine congrArg (k0_pay3 x0 x1) (funext fun a => Fin.ext ?_)
    fin_cases a
    · show 0 + i.val = i.val; omega
    · rfl
  have e4 : (⟨16 * s.val + j.val / 8, by omega⟩ : Fin 128) = ⟨(128 * s.val + j.val) / 8, by omega⟩ := Fin.ext (by simp only; omega)
  have e5 : j.val % 8 = (128 * s.val + j.val) % 8 := by omega
  rw [strip_apply, e0, e1, e2, e3, pay3_apply, View.ld_unit_zero hz3]
  unfold k0_pay45 blockAt
  rw [View.ld_unit_zero hz2, pay4_apply, e4, e5]

/-- The block the body leaves, at every element. -/
theorem out_apply (x0 : Vec Ideal S8x5120 .bf16) (x1 : Vec Ideal S640x1024 .i32) (x2 : Vec Ideal S1x1x1024 .f32)
    (x3 : Vec Ideal S1x1x128 .i32) (y : S8x1024.Idx) : out0_4 (F := Ideal) x0 x1 x2 x3 y = blockAt x0 x1 x2 x3 (y 0) (y 1) := by
  rw [out_eq_strips]
  refine View.canon_apply_of_pieces (Val := Elt Ideal) (e := .bf16) (fun y => blockAt x0 x1 x2 x3 (y 0) (y 1)) _ (fun p hp x => ?_) y (cover0_4 _ _ _ _ _ _ _ _ y)
  simp only [List.mem_cons, List.mem_nil_iff, or_false] at hp
  rcases hp with rfl | rfl | rfl | rfl | rfl | rfl | rfl | rfl
  · exact strip_eq 7 x0 x1 x2 x3 _ _ inb_S8x1024_S8x128_0_896 x
  · exact strip_eq 6 x0 x1 x2 x3 _ _ inb_S8x1024_S8x128_0_768 x
  · exact strip_eq 5 x0 x1 x2 x3 _ _ inb_S8x1024_S8x128_0_640 x
  · exact strip_eq 4 x0 x1 x2 x3 _ _ inb_S8x1024_S8x128_0_512 x
  · exact strip_eq 3 x0 x1 x2 x3 _ _ inb_S8x1024_S8x128_0_384 x
  · exact strip_eq 2 x0 x1 x2 x3 _ _ inb_S8x1024_S8x128_0_256 x
  · exact strip_eq 1 x0 x1 x2 x3 _ _ inb_S8x1024_S8x128_0_128 x
  · exact strip_eq 0 x0 x1 x2 x3 _ _ inb_S8x1024_S8x128_0_0 x

end Cert.Proof

end
-- ==== Proof.Array.lean ====
/- What the kernel leaves in its result array, over the extended reals: the blocks of all 35 grid points, each at the columns
   that it covers, and the host's reshape after them. -/
module

public import proofs.«01_k».proof.Proof.Block
public import Idealize.ShloMosaic.Lib.Pipeline.ValueKit
public import Idealize.ShloMosaic.Lib.Claim

@[expose] public section

noncomputable section

namespace Cert.Proof

open Idealize.ShloMosaic Idealize.SL.Sem Cert.KernelIdeal Cert.KernelIdeal.Gen Idealize.ShloMosaic.TcCoe
open Idealize.ShloMosaic.Pipeline (Dat Cfg Window)

variable (m : (ℓ : Loc nD τ sig) → Buf (Elt Ideal) ℓ) (ρ : Dev nD → PrngReg)

/-- The layer of the kernel's argument arrays as launched. -/
def kernelLayer (c : Dev nD) : Fin 8 → Fin 35840 → EReal :=
  layer (fun i k => (m ((c.tc : Thread nD τ).loc main_arg0) : S8x1x5120.Idx → EReal) (ix3 i 0 k))
    (fun r n => (m ((c.tc : Thread nD τ).loc main_arg1) : S640x35840.Idx → BitVec 32) (ix2 r n))
    (fun n => (m ((c.tc : Thread nD τ).loc main_arg2) : S35840.Idx → EReal) (ix1 n))
    (fun r => (m ((c.tc : Thread nD τ).loc main_arg3) : S4480.Idx → BitVec 32) (ix1 r))

/-- The region finds the activations as a matrix. -/
theorem entry0 (c : Dev nD) :
    V m c main_v0 = shapeCast S8x5120 (m ((c.tc : Thread nD τ).loc main_arg0)) shapeCasts_S8x1x5120_S8x5120 := by
  unfold V V0
  simp only [List.flatten_cons, List.flatten_nil, List.append_nil, List.cons_append, List.nil_append]
  after_results
  rfl

/-- The region finds the scales in rows of 1024. -/
theorem entry1 (c : Dev nD) :
    V m c main_v1 = shapeCast S35x1x1024 (m ((c.tc : Thread nD τ).loc main_arg2)) shapeCasts_S35840_S35x1x1024 := by
  unfold V V0
  simp only [List.flatten_cons, List.flatten_nil, List.append_nil, List.cons_append, List.nil_append]
  after_results
  rfl

/-- The region finds the packed zero points in rows of 128. -/
theorem entry2 (c : Dev nD) :
    V m c main_v2 = shapeCast S35x1x128 (m ((c.tc : Thread nD τ).loc main_arg3)) shapeCasts_S4480_S35x1x128 := by
  unfold V V0
  simp only [List.flatten_cons, List.flatten_nil, List.append_nil, List.cons_append, List.nil_append]
  after_results
  rfl

/-- Which block each window is at, point by point: the activations whole, the others' block the point's number. -/
theorem index_eq : ∀ t : Fin cfg0.N, win0_0.index t = ![0, 0] ∧ win0_1.index t = ![0, t.val] ∧ win0_2.index t = ![t.val, 0, 0]
    ∧ win0_3.index t = ![t.val, 0, 0] ∧ win0_4.index t = ![0, t.val] := by decide +kernel

/-- The activations' block is the argument's rows. -/
theorem blk0 (c : Dev nD) (t : Fin cfg0.N) (i : Fin 8) (k : Fin 5120) :
    iblk m c 0 t (ix2 i k) = (m ((c.tc : Thread nD τ).loc main_arg0) : S8x1x5120.Idx → EReal) (ix3 i 0 k) := by
  obtain ⟨e0, -⟩ := index_eq t
  have e : iblk m c 0 t (ix2 i k) = V m c main_v0 (ix2 i k) := by
    unfold iblk
    blk_ext [e0]
  rw [e, entry0]
  refine shapeCast_apply (s := S8x1x5120) _ _ _ _ ?_
  rewrite [Shape.rowMajor_val_three, Shape.rowMajor_val_two]
  show (i.val * 1 + 0) * 5120 + k.val = i.val * 5120 + k.val
  omega

/-- Row `r`, column `j` of the packed codes' block at point `t` is column `1024 t + j` of the argument. -/
theorem blk1 (c : Dev nD) (t : Fin cfg0.N) (r : Fin 640) (j : Fin 1024) (h : 1024 * t.val + j.val < 35840) :
    iblk m c 1 t (ix2 r j) = (m ((c.tc : Thread nD τ).loc main_arg1) : S640x35840.Idx → BitVec 32) (ix2 r ⟨1024 * t.val + j.val, h⟩) := by
  obtain ⟨-, e1, -⟩ := index_eq t
  unfold iblk
  entry_read
  blk_ext [e1]

/-- Column `j` of the scales' block at point `t` is column `1024 t + j` of the argument. -/
theorem blk2 (c : Dev nD) (t : Fin cfg0.N) (j : Fin 1024) (h : 1024 * t.val + j.val < 35840) :
    iblk m c 2 t (ix3 0 0 j) = (m ((c.tc : Thread nD τ).loc main_arg2) : S35840.Idx → EReal) (ix1 ⟨1024 * t.val + j.val, h⟩) := by
  obtain ⟨-, -, e2, -⟩ := index_eq t
  have e : iblk m c 2 t (ix3 0 0 j) = V m c main_v1 (ix3 (⟨t.val, t.isLt⟩ : Fin 35) 0 j) := by
    unfold iblk
    blk_ext [e2]
  rw [e, entry1]
  pointwise
  blk_ext

/-- Word `r` of the packed zero points' block at point `t` is word `128 t + r` of the argument. -/
theorem blk3 (c : Dev nD) (t : Fin cfg0.N) (r : Fin 128) (h : 128 * t.val + r.val < 4480) :
    iblk m c 3 t (ix3 0 0 r) = (m ((c.tc : Thread nD τ).loc main_arg3) : S4480.Idx → BitVec 32) (ix1 ⟨128 * t.val + r.val, h⟩) := by
  obtain ⟨-, -, -, e3, -⟩ := index_eq t
  have e : iblk m c 3 t (ix3 0 0 r) = V m c main_v2 (ix3 (⟨t.val, t.isLt⟩ : Fin 35) 0 r) := by
    unfold iblk
    blk_ext [e3]
  rw [e, entry2]
  pointwise
  blk_ext

/-- The block that point `t` leaves is the layer at columns `1024 t …`. -/
theorem block_eq (c : Dev nD) (t : Fin cfg0.N) (i : Fin 8) (j : Fin 1024) (h : 1024 * t.val + j.val < 35840) :
    blockAt (iblk m c 0 t) (iblk m c 1 t) (iblk m c 2 t) (iblk m c 3 t) i j = kernelLayer m c i ⟨1024 * t.val + j.val, h⟩ := by
  have ht : t.val < 35 := t.isLt
  have hn : 128 * t.val + j.val / 8 = (1024 * t.val + j.val) / 8 := by omega
  have hm : j.val % 8 = (1024 * t.val + j.val) % 8 := by omega
  unfold blockAt kernelLayer layer
  rw [blk2 m c t j h, blk3 m c t ⟨j.val / 8, by omega⟩ (by show 128 * t.val + j.val / 8 < 4480; omega)]
  simp only [blk0, blk1 m c t _ j h, hn, hm]

/-- The pipeline's result array after the run is the layer. -/
theorem array_eq (c : Dev nD) :
    (dats (F := Ideal) m 0 c).arrAt 4 cfg0.N = fun y : S8x35840.Idx => kernelLayer m c (y 0) (y 1) := by
  refine (dats (F := Ideal) m 0 c).arrAt_eq_of_covers 4 _ (by decide +kernel) fun t hf y => ?_
  obtain ⟨-, -, -, -, e4⟩ := index_eq t
  blk_simp
  rw [after0_4, out_apply]
  have ht : t.val < 35 := t.isLt
  obtain ⟨i, j, rfl⟩ : ∃ (i : Fin 8) (j : Fin 1024), y = ix2 i j := ⟨y 0, y 1, by funext a; fin_cases a <;> rfl⟩
  refine (block_eq m c t i j (by omega)).trans ?_
  refine congrArg₂ (kernelLayer m c) (Fin.ext ?_) (Fin.ext ?_)
  · blk_simp [e4]
  · blk_simp [e4]
    exact congrArg (· + j.val) (Nat.mul_comm 1024 t.val)

/-- The result buffer after the host's reshape is the layer. -/
theorem tail_eq (c : Dev nD) :
    Pipeline.afterTail₀ cfgs (dats (F := Ideal) m) 0 (V0 m) [hostOps1] c main_v4
      = fun y : S8x1x35840.Idx => kernelLayer m c (y 0) (y 2) := by
  have h : Pipeline.afterTail₀ cfgs (dats (F := Ideal) m) 0 (V0 m) [hostOps1] c main_v4
      = shapeCast S8x1x35840 ((dats (F := Ideal) m 0 c).arrAt 4 cfg0.N) shapeCasts_S8x35840_S8x1x35840 := by
    unfold Pipeline.afterTail₀
    simp only [List.flatten_cons, List.flatten_nil, List.append_nil, List.cons_append, List.nil_append]
    after_results
    exact congrArg (fun x => shapeCast S8x1x35840 x shapeCasts_S8x35840_S8x1x35840)
      (Pipeline.withArrays_arr spec0 launch0.win.arr_inj c _ _ 4)
  rw [h, array_eq]
  funext y
  refine (shapeCast_apply _ _ _ (ix2 (n0 := 8) (n1 := 35840) (y 0) (y 2)) ?_).trans rfl
  rewrite [Shape.rowMajor_val_three, Shape.rowMajor_val_two]
  have h1 : (y 1).val < 1 := (y 1).isLt
  show (y 0).val * 35840 + (y 2).val = ((y 0).val * 1 + (y 1).val) * 35840 + (y 2).val
  omega

/-- The kernel runs, its result buffer ends holding the layer of its arguments, and its arguments end unchanged. -/
theorem kernel_run : θ_run defs (onTc (τ := τ) (main (F := Ideal))) ⟨m, fun _ => 0, ρ⟩ (fun r => ∀ c : Dev nD,
    r.2.mem ((c.tc : Thread nD τ).loc main_v4) = (fun y : S8x1x35840.Idx => kernelLayer m c (y 0) (y 2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun _ h c => ⟨((h.1 c).2 main_v4 (Pipeline.mem_restRefs_of main_v4 (by decide) (by decide))).trans (tail_eq m c),
    h.2 c⟩) (θ_run_and (run_main m ρ) (unchanged m ρ))

end Cert.Proof

end
-- ==== Proof.Reference.lean ====
/- The value of the reference, at every element, over the extended reals. -/
module

public import proofs.«01_k».proof.Proof.Gen.ReferenceIdeal.Read
public import proofs.«01_k».proof.Proof.Spec

@[expose] public section

noncomputable section

namespace Cert.Proof

open Idealize.ShloMosaic Idealize.SL.Sem Cert.ReferenceIdeal Cert.ReferenceIdeal.Read

/-- The reference's result at an element is the layer's. -/
theorem reference_apply (x0 : (⟨S8x1x5120, .bf16⟩ : BufTy).Contents (Elt Ideal)) (x1 : (⟨S640x35840, .i32⟩ : BufTy).Contents (Elt Ideal))
    (x2 : (⟨S35840, .f32⟩ : BufTy).Contents (Elt Ideal)) (x3 : (⟨S4480, .i32⟩ : BufTy).Contents (Elt Ideal)) (i : Fin 8) (n : Fin 35840) :
    val_main_v35 (F := Ideal) x0 x1 x2 x3 (ix3 i 0 n)
      = layer (fun i k => x0 (ix3 i 0 k)) (fun r n => x1 (ix2 r n)) (fun n => x2 (ix1 n)) (fun r => x3 (ix1 r)) i n := by
  unfold val_main_v35 val_main_v34 val_main_v33 val_main_v32 val_main_v31 val_main_v30 val_main_v29 val_main_v28 val_main_v27 val_main_v26
    val_main_v25 val_main_v24 val_main_v23 val_main_v22 val_main_v21 val_main_v20 val_main_v19 val_main_v18 val_main_v17 val_main_v16
    val_main_v15 val_main_v14 val_main_v13 val_main_v12 val_main_v11 val_main_v10 val_main_v9 val_main_v8 val_main_v7 val_main_v6 val_main_v5
    val_main_v4 val_main_v3 val_main_v2 val_main_v1 val_main_v0 val_main_c val_main_c_0 val_main_c_1 val_main_cst layer
  pointwise
  simp only [shift_word, sitofp_field]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.Reference
public import Idealize.ShloMosaic.Adequacy
public import Idealize.ShloMosaic.Init

@[expose] public section

noncomputable section

namespace Cert.Proof

open Idealize.ShloMosaic Idealize.SL.Sem

/-- The reference runs, its arguments end unchanged, and every semaphore counter reads zero: it is a line of host operations
    and declares no semaphore. -/
theorem reference_frame : Cert.quiescent_ReferenceIdeal (hReferenceIdeal := Cert.ReferenceIdeal.Gen.facts) := by
  intro m g _
  exact (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- From memories that agree on the arguments both programs end with the layer's elements in their result arrays. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => fun y : Cert.KernelIdeal.S8x1x35840.Idx => kernelLayer m c (y 0) (y 2), kernel_run m g,
    (θ_run _ _ _).mono (fun r h c => ?_) (Cert.ReferenceIdeal.Value.run (F := Ideal) m' g')⟩
  refine ⟨((h c).1.trans (Cert.ReferenceIdeal.Read.val_main_v35_eq ..)).trans ?_, (h c).2⟩
  obtain ⟨h0, h1, h2, h3⟩ := hagree c
  rw [h0, h1, h2, h3]
  funext y
  obtain ⟨i, n, rfl⟩ : ∃ (i : Fin 8) (n : Fin 35840), y = ix3 i 0 n :=
    ⟨y 0, y 2, by funext a; fin_cases a <;> first | rfl | exact Subsingleton.elim (α := Fin 1) _ _⟩
  exact reference_apply _ _ _ _ i n

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
